-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512x10 : Shape := ⟨3, ![8192, 512, 10]⟩
abbrev S8192 : Shape := ⟨1, ![8192]⟩
abbrev S512x10x64 : Shape := ⟨3, ![512, 10, 64]⟩
abbrev S512x64x64 : Shape := ⟨3, ![512, 64, 64]⟩
abbrev S64x1 : Shape := ⟨2, ![64, 1]⟩
abbrev S1 : Shape := ⟨1, ![1]⟩
abbrev S512x10x8192 : Shape := ⟨3, ![512, 10, 8192]⟩
abbrev S512x64x10 : Shape := ⟨3, ![512, 64, 10]⟩
abbrev S512x64x74 : Shape := ⟨3, ![512, 64, 74]⟩
abbrev S1x8192 : Shape := ⟨2, ![1, 8192]⟩
abbrev S1x1 : Shape := ⟨2, ![1, 1]⟩
abbrev S8192x1 : Shape := ⟨2, ![8192, 1]⟩
abbrev S64x10x4096 : Shape := ⟨3, ![64, 10, 4096]⟩
abbrev S1x4096 : Shape := ⟨2, ![1, 4096]⟩
abbrev S4096x1 : Shape := ⟨2, ![4096, 1]⟩
abbrev S64x4096 : Shape := ⟨2, ![64, 4096]⟩
abbrev S64x512 : Shape := ⟨2, ![64, 512]⟩
abbrev S1x512 : Shape := ⟨2, ![1, 512]⟩
abbrev S1x10x512 : Shape := ⟨3, ![1, 10, 512]⟩
abbrev S10x512 : Shape := ⟨2, ![10, 512]⟩
abbrev S74x512 : Shape := ⟨2, ![74, 512]⟩
abbrev S1x64x74 : Shape := ⟨3, ![1, 64, 74]⟩
abbrev S64x74 : Shape := ⟨2, ![64, 74]⟩
abbrev S4096x64 : Shape := ⟨2, ![4096, 64]⟩

abbrev nBuf : Space → Nat
  | .hbm => 16
  | .vmem => 10
  | .smem => 0
  | _ => 0

abbrev bufTy : (tb : Table) → Fin (tcTables nBuf tb) → BufTy
  | .hbm, ⟨0, _⟩ => ⟨S8192x512x10, .f32⟩
  | .hbm, ⟨1, _⟩ => ⟨S8192, .i32⟩
  | .hbm, ⟨2, _⟩ => ⟨S512x10x64, .f32⟩
  | .hbm, ⟨3, _⟩ => ⟨S512x64x64, .f32⟩
  | .hbm, ⟨4, _⟩ => ⟨S64x1, .f32⟩
  | .hbm, ⟨5, _⟩ => ⟨S1, .f32⟩
  | .hbm, ⟨6, _⟩ => ⟨S512x10x8192, .f32⟩
  | .hbm, ⟨7, _⟩ => ⟨S512x10x8192, .bf16⟩
  | .hbm, ⟨8, _⟩ => ⟨S512x64x64, .f32⟩
  | .hbm, ⟨9, _⟩ => ⟨S512x64x10, .f32⟩
  | .hbm, ⟨10, _⟩ => ⟨S512x64x74, .f32⟩
  | .hbm, ⟨11, _⟩ => ⟨S512x64x74, .bf16⟩
  | .hbm, ⟨12, _⟩ => ⟨S1x8192, .i32⟩
  | .hbm, ⟨13, _⟩ => ⟨S64x1, .bf16⟩
  | .hbm, ⟨14, _⟩ => ⟨S1x1, .f32⟩
  | .hbm, ⟨15, _⟩ => ⟨S8192x1, .f32⟩
  | .local _ .vmem, ⟨0, _⟩ => ⟨S64x10x4096, .bf16⟩
  | .local _ .vmem, ⟨1, _⟩ => ⟨S64x10x4096, .bf16⟩
  | .local _ .vmem, ⟨2, _⟩ => ⟨S1x4096, .i32⟩
  | .local _ .vmem, ⟨3, _⟩ => ⟨S1x4096, .i32⟩
  | .local _ .vmem, ⟨4, _⟩ => ⟨S512x64x74, .bf16⟩
  | .local _ .vmem, ⟨5, _⟩ => ⟨S64x1, .bf16⟩
  | .local _ .vmem, ⟨6, _⟩ => ⟨S1x1, .f32⟩
  | .local _ .vmem, ⟨7, _⟩ => ⟨S4096x1, .f32⟩
  | .local _ .vmem, ⟨8, _⟩ => ⟨S4096x1, .f32⟩
  | .local _ .vmem, ⟨9, _⟩ => ⟨S64x4096, .bf16⟩
  | _, _ => ⟨S8192x512x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def k0_off1 (i : grid0.Coords) (c0_i32_14 : BitVec 32) : Fin 3 → Nat :=
  let arg1 : BitVec 32 := BitVec.ofNat 32 (i 1).val
  let c64_i32 : BitVec 32 := 64#32
  let v23 : BitVec 32 := Scalar.muli arg1 c64_i32
  let v24 : BitVec 32 := Scalar.addi v23 c0_i32_14
  let v28 : Index := Scalar.indexCast v24
  let c0_15 : Index := 0#32
  let c0_16 : Index := 0#32
  ![v28.toNat, 0, 0]
def k0_cond2 (i : grid0.Coords) : BitVec 1 :=
  let arg1 : BitVec 32 := BitVec.ofNat 32 (i 1).val
  let c7_i32_1615 : BitVec 32 := 7#32
  let v7323 : BitVec 1 := Scalar.cmpi .eq arg1 c7_i32_1615
  let v7324 : BitVec 32 := Scalar.extui v7323
  let c0_i32_1616 : BitVec 32 := 0#32
  let v7325 : BitVec 1 := Scalar.cmpi .ne v7324 c0_i32_1616
  v7325

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x10x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x64x74 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x512x10 : Shape := ⟨3, ![8192, 512, 10]⟩
abbrev S8192 : Shape := ⟨1, ![8192]⟩
abbrev S512x10x64 : Shape := ⟨3, ![512, 10, 64]⟩
abbrev S512x64x64 : Shape := ⟨3, ![512, 64, 64]⟩
abbrev S64x1 : Shape := ⟨2, ![64, 1]⟩
abbrev S1 : Shape := ⟨1, ![1]⟩
abbrev S512x8192x10 : Shape := ⟨3, ![512, 8192, 10]⟩
abbrev S512 : Shape := ⟨1, ![512]⟩
abbrev S_ : Shape := ⟨0, ![]⟩
abbrev S8192x64 : Shape := ⟨2, ![8192, 64]⟩
abbrev S1x8192x10 : Shape := ⟨3, ![1, 8192, 10]⟩
abbrev S8192x10 : Shape := ⟨2, ![8192, 10]⟩
abbrev S1x10x64 : Shape := ⟨3, ![1, 10, 64]⟩
abbrev S10x64 : Shape := ⟨2, ![10, 64]⟩
abbrev S1x64x64 : Shape := ⟨3, ![1, 64, 64]⟩
abbrev S64x64 : Shape := ⟨2, ![64, 64]⟩
abbrev S8192x1 : Shape := ⟨2, ![8192, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x512x10, .f32⟩
  | .hbm, ⟨1, _⟩ => ⟨S8192, .i32⟩
  | .hbm, ⟨2, _⟩ => ⟨S512x10x64, .f32⟩
  | .hbm, ⟨3, _⟩ => ⟨S512x64x64, .f32⟩
  | .hbm, ⟨4, _⟩ => ⟨S64x1, .f32⟩
  | .hbm, ⟨5, _⟩ => ⟨S1, .f32⟩
  | .hbm, ⟨6, _⟩ => ⟨S512x8192x10, .f32⟩
  | .hbm, ⟨7, _⟩ => ⟨S512, .i32⟩
  | .hbm, ⟨8, _⟩ => ⟨S_, .f32⟩
  | .hbm, ⟨9, _⟩ => ⟨S8192x64, .f32⟩
  | .hbm, ⟨10, _⟩ => ⟨S_, .i32⟩
  | .hbm, ⟨11, _⟩ => ⟨S512x8192x10, .f32⟩
  | .hbm, ⟨12, _⟩ => ⟨S512x10x64, .f32⟩
  | .hbm, ⟨13, _⟩ => ⟨S512x64x64, .f32⟩
  | .hbm, ⟨14, _⟩ => ⟨S512, .i32⟩
  | .hbm, ⟨15, _⟩ => ⟨S8192, .i32⟩
  | .hbm, ⟨16, _⟩ => ⟨S_, .i32⟩
  | .hbm, ⟨17, _⟩ => ⟨S8192x64, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x8192x10, .f32⟩
  | .hbm, ⟨23, _⟩ => ⟨S8192x10, .f32⟩
  | .hbm, ⟨24, _⟩ => ⟨S_, .i32⟩
  | .hbm, ⟨25, _⟩ => ⟨S_, .i32⟩
  | .hbm, ⟨26, _⟩ => ⟨S1x10x64, .f32⟩
  | .hbm, ⟨27, _⟩ => ⟨S10x64, .f32⟩
  | .hbm, ⟨28, _⟩ => ⟨S_, .i32⟩
  | .hbm, ⟨29, _⟩ => ⟨S_, .i32⟩
  | .hbm, ⟨30, _⟩ => ⟨S1x64x64, .f32⟩
  | .hbm, ⟨31, _⟩ => ⟨S64x64, .f32⟩
  | .hbm, ⟨32, _⟩ => ⟨S1, .i32⟩
  | .hbm, ⟨33, _⟩ => ⟨S_, .i32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192, .i32⟩
  | .hbm, ⟨39, _⟩ => ⟨S8192, .i1⟩
  | .hbm, ⟨40, _⟩ => ⟨S8192x1, .i1⟩
  | .hbm, ⟨41, _⟩ => ⟨S8192x64, .i1⟩
  | .hbm, ⟨42, _⟩ => ⟨S8192x64, .f32⟩
  | .hbm, ⟨43, _⟩ => ⟨S_, .i32⟩
  | .hbm, ⟨44, _⟩ => ⟨S_, .i32⟩
  | .hbm, ⟨45, _⟩ => ⟨S8192x1, .f32⟩
  | .hbm, ⟨46, _⟩ => ⟨S1x1, .f32⟩
  | .hbm, ⟨47, _⟩ => ⟨S8192x1, .f32⟩
  | .hbm, ⟨48, _⟩ => ⟨S8192x1, .f32⟩
  | _, _ => ⟨S8192x512x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_while0c_c_6 : Ref sig .tc := ⟨.hbm, 18, rfl⟩
abbrev main_while0c_v8 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v8 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v9 : Ref sig .tc := ⟨.hbm, 27, rfl⟩
abbrev main_while0b_call2_c : Ref sig .tc := ⟨.hbm, 28, rfl⟩
abbrev main_while0b_call2_c_0 : Ref sig .tc := ⟨.hbm, 29, rfl⟩
abbrev main_while0b_call2_v0 : Ref sig .tc := ⟨.hbm, 30, rfl⟩
abbrev main_while0b_v10 : Ref sig .tc := ⟨.hbm, 31, rfl⟩
abbrev main_while0b_call3_v0 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_call4_v0 : Ref sig .tc := ⟨.hbm, 41, rfl⟩
abbrev main_while0b_v19 : Ref sig .tc := ⟨.hbm, 42, rfl⟩
abbrev main_while0b_c_6 : Ref sig .tc := ⟨.hbm, 43, rfl⟩
abbrev main_while0b_v20 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩

abbrev nD : Nat := 1
abbrev τ : Topo := Topo.v7x

variable {F : FTy → Type} [FloatOps F]

abbrev main_while0_count : Scf.Loop 32 := ⟨0#32, 512#32, 1#32⟩
-- ==== Proof.Body.lean ====
/-
  What one grid point's body computes, written as a recursion: the body carries eight sub-batches of 512 samples through
  64 time steps; the value each unrolled step leaves is one application of `blkStep`.
-/
module

public import proofs.«01_k».proof.Proof.Gen.KernelIdeal.Frame
public import Idealize.ShloMosaic.Lib.Pipeline.Value

@[expose] public section

set_option maxRecDepth 16384

noncomputable section

namespace Cert.Rnn.Body

open Idealize.ShloMosaic Idealize.ShloMosaic.TcCoe Idealize.ShloMosaic.Tactic
open Cert.KernelIdeal Cert.KernelIdeal.Gen

variable {F : FTy → Type} [FloatOps F]

/-- Sub-batch `g`'s 512 columns lie inside the block of lengths. -/
theorem lenSlice (g : Fin 8) : S1x4096.Slices ![0, 512 * g.val] S1x512 :=
  ⟨rfl, fun a => by
    have := g.isLt
    fin_cases a
    · exact Nat.le_refl _
    · show 512 * g.val + 512 ≤ 4096; omega⟩

/-- Step `k`'s inputs for sub-batch `g` lie inside the block of inputs. -/
theorem xSlice (k : Fin 64) (g : Fin 8) : S64x10x4096.Slices ![k.val, 0, 512 * g.val] S1x10x512 :=
  ⟨rfl, fun a => by
    have := g.isLt; have := k.isLt
    fin_cases a
    · show k.val + 1 ≤ 64; omega
    · exact Nat.le_refl _
    · show 512 * g.val + 512 ≤ 4096; omega⟩

/-- Sub-batch `g`'s 512 columns lie inside the state. -/
theorem hInb (g : Fin 8) (a : Fin 2) : (![0, 512 * g.val] : Fin 2 → ℕ) a + S64x512.size a ≤ S64x4096.size a := by
  have := g.isLt
  fin_cases a
  · exact Nat.le_refl _
  · show 512 * g.val + 512 ≤ 4096; omega

/-- One time step of one sub-batch, in the body's operations: `w` the step's weights, `x` the block of inputs, `ln` the
    block of lengths, `t` the step's number, `k` its position in the block, `h` the sub-batch's state. -/
def blkStep (w : Vec F S1x64x74 .bf16) (x : FVec F S64x10x4096 .bf16) (ln : IVec S1x4096 32) (t : BitVec 32)
    (k : Fin 64) (g : Fin 8) (h : FVec F S64x512 .bf16) : FVec F S64x512 .bf16 :=
  select
    (broadcastTo S64x512 (shapeCast S1x512 (cmpi .sgt (extractStridedSlice S1x512 ![0, 512 * g.val] ln (lenSlice g))
      (broadcast S1x512 t)) shapeCasts_S1x512_S1x512) broadcasts_S1x512_S64x512)
    (truncf .bf16 (tanh (matmul dot_S64x74_S74x512_S64x512_1_0_0_1_n_n none
      (shapeCast S64x74 w shapeCasts_S1x64x74_S64x74)
      (concatenate S74x512 0 [⟨S64x512, h⟩, ⟨S10x512, shapeCast S10x512
        (extractStridedSlice S1x10x512 ![k.val, 0, 512 * g.val] x (xSlice k g)) shapeCasts_S1x10x512_S10x512⟩]
        concatenates_S64x512_S10x512_S74x512_d0)
      (constant S64x512 .f32 0x00000000#32))) bitsLt_bf16_f32) h

/-- A natural number as a position in a block of 64 steps. -/
def km (n : ℕ) : Fin 64 := ⟨n % 64, Nat.mod_lt _ (by decide)⟩

/-- A sub-batch's state after `n` of the block's steps. -/
def blkIter (w : Fin 64 → Vec F S1x64x74 .bf16) (x : FVec F S64x10x4096 .bf16) (ln : IVec S1x4096 32)
    (t : Fin 64 → BitVec 32) (g : Fin 8) (h0 : FVec F S64x512 .bf16) (n : ℕ) : FVec F S64x512 .bf16 :=
  Nat.rec h0 (fun n h => blkStep (w (km n)) x ln (t (km n)) (km n) g h) n

/-- The eight sub-batches laid side by side. -/
def joined (f : Fin 8 → FVec F S64x512 .bf16) : FVec F S64x4096 .bf16 :=
  concatenate S64x4096 1 [⟨S64x512, f 0⟩, ⟨S64x512, f 1⟩, ⟨S64x512, f 2⟩, ⟨S64x512, f 3⟩, ⟨S64x512, f 4⟩, ⟨S64x512, f 5⟩,
    ⟨S64x512, f 6⟩, ⟨S64x512, f 7⟩] concatenates_S64x512_S64x512_S64x512_S64x512_S64x512_S64x512_S64x512_S64x512_S64x4096_d1

/-- The number of the `k`-th step of the point's block. -/
def stepNo (i : grid0.Coords) (k : Fin 64) : BitVec 32 :=
  Scalar.addi (Scalar.muli (BitVec.ofNat 32 (i 1).val) 64#32) (BitVec.ofNat 32 k.val)

/-- The weights the body loads at the `k`-th step. -/
def wLoad (i : grid0.Coords) (arg4 : Memref sig .tc .vmem S512x64x74 .bf16) (harg4 : arg4.IsWhole)
    (x2 : Vec F S512x64x74 .bf16) (k : Fin 64) : Vec F S1x64x74 .bf16 :=
  View.readAt (Elt F) arg4.view (Rect.unit (s := S512x64x74) (k0_off1 i (BitVec.ofNat 32 k.val)) S1x64x74.size
    (k0_off1_inb i k)).toLoadRect (harg4.unread x2)

/-- The inputs the body loads. -/
def xLoad (arg2 : Memref sig .tc .vmem S64x10x4096 .bf16) (harg2 : arg2.IsWhole) (x0 : Vec F S64x10x4096 .bf16) :
    FVec F S64x10x4096 .bf16 :=
  shapeCast S64x10x4096 (View.readAt (Elt F) arg2.view
    (Rect.unit (s := S64x10x4096) ![0, 0, 0] S64x10x4096.size inb_S64x10x4096_S64x10x4096_0_0_0).toLoadRect (harg2.unread x0))
    shapeCasts_S64x10x4096_S64x10x4096

/-- The lengths the body loads. -/
def lLoad (arg3 : Memref sig .tc .vmem S1x4096 .i32) (harg3 : arg3.IsWhole) (x1 : Vec F S1x4096 .i32) : IVec S1x4096 32 :=
  shapeCast S1x4096 (View.readAt (Elt F) arg3.view
    (Rect.unit (s := S1x4096) ![0, 0] S1x4096.size inb_S1x4096_S1x4096_0_0).toLoadRect (harg3.unread x1))
    shapeCasts_S1x4096_S1x4096

/-- The state of sub-batch `g` the body loads. -/
def hLoad (arg8 : Memref sig .tc .vmem S64x4096 .bf16) (harg8 : arg8.IsWhole) (xs0 : Vec F S64x4096 .bf16) (g : Fin 8) :
    FVec F S64x512 .bf16 :=
  View.readAt (Elt F) arg8.view (Rect.unit (s := S64x4096) ![0, 512 * g.val] S64x512.size (hInb g)).toLoadRect (harg8.unread xs0)

/-- The state after the point's block of steps, from the sub-batches' states `h0`. -/
def after (i : grid0.Coords) (arg2 : Memref sig .tc .vmem S64x10x4096 .bf16) (harg2 : arg2.IsWhole)
    (arg3 : Memref sig .tc .vmem S1x4096 .i32) (harg3 : arg3.IsWhole)
    (arg4 : Memref sig .tc .vmem S512x64x74 .bf16) (harg4 : arg4.IsWhole)
    (x0 : Vec F S64x10x4096 .bf16) (x1 : Vec F S1x4096 .i32) (x2 : Vec F S512x64x74 .bf16)
    (h0 : Fin 8 → FVec F S64x512 .bf16) : FVec F S64x4096 .bf16 :=
  joined fun g => blkIter (wLoad i arg4 harg4 x2) (xLoad arg2 harg2 x0) (lLoad arg3 harg3 x1) (stepNo i) g (h0 g) 64

/-- The zero state a run's first point stores. -/
def zeroState : FVec F S64x4096 .bf16 :=
  shapeCast S64x4096 (broadcast S64x4096 (Scalar.ofBits .bf16 0x0000#16)) shapeCasts_S64x4096_S64x4096

/-- The state of sub-batch `g` the body loads after storing the zero state. -/
def hZero (arg8 : Memref sig .tc .vmem S64x4096 .bf16) (g : Fin 8) : FVec F S64x512 .bf16 :=
  arg8.view.readCov (Val := Elt F) [⟨Rect.unit (s := S64x4096) ![0, 0] S64x4096.size inb_S64x4096_S64x4096_0_0, zeroState (F := F)⟩]
    (Rect.unit (s := S64x4096) ![0, 512 * g.val] S64x512.size (hInb g)).toLoadRect

/-- The output layer on a state, in the body's operations. -/
def outLayer (arg5 : Memref sig .tc .vmem S64x1 .bf16) (harg5 : arg5.IsWhole) (arg6 : Memref sig .tc .vmem S1x1 .f32)
    (harg6 : arg6.IsWhole) (x3 : Vec F S64x1 .bf16) (x4 : Vec F S1x1 .f32) (h : FVec F S64x4096 .bf16) : FVec F S4096x1 .f32 :=
  addf (matmul dot_S4096x64_S64x1_S4096x1_1_0_0_1_n_n none
      (transpose S4096x64 [1, 0] h transposes_S64x4096_p1_0_S4096x64)
      (shapeCast S64x1 (View.readAt (Elt F) arg5.view
        (Rect.unit (s := S64x1) ![0, 0] S64x1.size inb_S64x1_S64x1_0_0).toLoadRect (harg5.unread x3)) shapeCasts_S64x1_S64x1)
      (constant S4096x1 .f32 0x00000000#32))
    (broadcastTo S4096x1 (shapeCast S1x1 (View.readAt (Elt F) arg6.view
        (Rect.unit (s := S1x1) ![0, 0] S1x1.size inb_S1x1_S1x1_0_0).toLoadRect (harg6.unread x4)) shapeCasts_S1x1_S1x1)
      broadcasts_S1x1_S4096x1)

/-- A run's first point stores the zero state, then the state after its block of steps from it. -/
theorem pieces_A (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : cond0_0 i) (hc1 : ¬cond0_1 i)
    (x0 : Vec F S64x10x4096 .bf16) (x1 : Vec F S1x4096 .i32) (x2 : Vec F S512x64x74 .bf16) (x3 : Vec F S64x1 .bf16) (x4 : Vec F S1x1 .f32) :
    (kernelRun0_A c i arg2 harg2 arg3 harg3 arg4 harg4 arg5 harg5 arg6 harg6 arg7 harg7 arg8 harg8 hc0 hc1 x0 x1 x2 x3 x4).2.1
      = [⟨Rect.unit (s := S64x4096) ![0, 0] S64x4096.size inb_S64x4096_S64x4096_0_0,
          shapeCast S64x4096 (after i arg2 harg2 arg3 harg3 arg4 harg4 x0 x1 x2 (hZero arg8)) shapeCasts_S64x4096_S64x4096⟩,
        ⟨Rect.unit (s := S64x4096) ![0, 0] S64x4096.size inb_S64x4096_S64x4096_0_0, zeroState⟩] := by
  sl_kernel_rfl

/-- A middle point stores the state after its block of steps, from the state it finds. -/
theorem pieces_B (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : ¬cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    (kernelRun0_B c i arg2 harg2 arg3 harg3 arg4 harg4 arg5 harg5 arg6 harg6 arg7 harg7 arg8 harg8 hc0 hc1 x0 x1 x2 x3 x4 xs0).2.1
      = [⟨Rect.unit (s := S64x4096) ![0, 0] S64x4096.size inb_S64x4096_S64x4096_0_0,
          shapeCast S64x4096 (after i arg2 harg2 arg3 harg3 arg4 harg4 x0 x1 x2 (hLoad arg8 harg8 xs0)) shapeCasts_S64x4096_S64x4096⟩] := by
  sl_kernel_rfl

/-- A run's last point stores the state after its block of steps, from the state it finds. -/
theorem pieces_C (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    (kernelRun0_C c i arg2 harg2 arg3 harg3 arg4 harg4 arg5 harg5 arg6 harg6 arg7 harg7 arg8 harg8 hc0 hc1 x0 x1 x2 x3 x4 xs0).2.1
      = [⟨Rect.unit (s := S64x4096) ![0, 0] S64x4096.size inb_S64x4096_S64x4096_0_0,
          shapeCast S64x4096 (after i arg2 harg2 arg3 harg3 arg4 harg4 x0 x1 x2 (hLoad arg8 harg8 xs0)) shapeCasts_S64x4096_S64x4096⟩] := by
  sl_kernel_rfl

/-- A run's last point stores the output layer on the state after its block of steps. -/
theorem pieces_C_out (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    (kernelRun0_C c i arg2 harg2 arg3 harg3 arg4 harg4 arg5 harg5 arg6 harg6 arg7 harg7 arg8 harg8 hc0 hc1 x0 x1 x2 x3 x4 xs0).1
      = [⟨Rect.unit (s := S4096x1) ![0, 0] S4096x1.size inb_S4096x1_S4096x1_0_0,
          outLayer arg5 harg5 arg6 harg6 x3 x4 (after i arg2 harg2 arg3 harg3 arg4 harg4 x0 x1 x2 (hLoad arg8 harg8 xs0))⟩] := by
  sl_kernel_rfl

/-- Offsets `![0, 0]` are zero on each axis. -/
theorem hz : (![0, 0] : Fin 2 → ℕ) = fun _ => 0 := funext fun a => by fin_cases a <;> rfl

/-- What a run's first point leaves in the state: the state after its block of steps, from the zero state. -/
theorem state_A (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : cond0_0 i) (hc1 : ¬cond0_1 i)
    (x0 : Vec F S64x10x4096 .bf16) (x1 : Vec F S1x4096 .i32) (x2 : Vec F S512x64x74 .bf16) (x3 : Vec F S64x1 .bf16) (x4 : Vec F S1x1 .f32) :
    sout0_A_0 c i arg2 harg2 arg3 harg3 arg4 harg4 arg5 harg5 arg6 harg6 arg7 harg7 arg8 harg8 hc0 hc1 x0 x1 x2 x3 x4
      = after i arg2 harg2 arg3 harg3 arg4 harg4 x0 x1 x2 (hZero arg8) := by
  unfold sout0_A_0
  rw [pieces_A, View.read_writes_junk_eq_canon, View.canon_cons_unit_zero (S := S64x4096) hz, shapeCast_self]

/-- What a middle point leaves in the state. -/
theorem state_B (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : ¬cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    sout0_B_0 c i arg2 harg2 arg3 harg3 arg4 harg4 arg5 harg5 arg6 harg6 arg7 harg7 arg8 harg8 hc0 hc1 x0 x1 x2 x3 x4 xs0
      = after i arg2 harg2 arg3 harg3 arg4 harg4 x0 x1 x2 (hLoad arg8 harg8 xs0) := by
  unfold sout0_B_0
  rw [pieces_B, View.read_writes_junk_eq_canon, View.canon_cons_unit_zero (S := S64x4096) hz, shapeCast_self]

/-- What a run's last point leaves in the state. -/
theorem state_C (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    sout0_C_0 c i arg2 harg2 arg3 harg3 arg4 harg4 arg5 harg5 arg6 harg6 arg7 harg7 arg8 harg8 hc0 hc1 x0 x1 x2 x3 x4 xs0
      = after i arg2 harg2 arg3 harg3 arg4 harg4 x0 x1 x2 (hLoad arg8 harg8 xs0) := by
  unfold sout0_C_0
  rw [pieces_C, View.read_writes_junk_eq_canon, View.canon_cons_unit_zero (S := S64x4096) hz, shapeCast_self]

/-- What a run's last point leaves in the output block: the output layer on the state it leaves. -/
theorem output_C (c : Dev nD) (i : grid0.Coords) (arg2 : Memref sig .tc .vmem S64x10x4096 .bf16) (harg2 : arg2.IsWhole) (arg3 : Memref sig .tc .vmem S1x4096 .i32) (harg3 : arg3.IsWhole) (arg4 : Memref sig .tc .vmem S512x64x74 .bf16) (harg4 : arg4.IsWhole) (arg5 : Memref sig .tc .vmem S64x1 .bf16) (harg5 : arg5.IsWhole) (arg6 : Memref sig .tc .vmem S1x1 .f32) (harg6 : arg6.IsWhole) (arg7 : Memref sig .tc .vmem S4096x1 .f32) (harg7 : arg7.IsWhole) (arg8 : Memref sig .tc .vmem S64x4096 .bf16) (harg8 : arg8.IsWhole) (hc0 : ¬cond0_0 i) (hc1 : cond0_1 i)
    (x0 : Vec F S64x10x4096 .bf16) (x1 : Vec F S1x4096 .i32) (x2 : Vec F S512x64x74 .bf16) (x3 : Vec F S64x1 .bf16) (x4 : Vec F S1x1 .f32) (xs0 : Vec F S64x4096 .bf16) :
    out0_C_5 c i arg2 harg2 arg3 harg3 arg4 harg4 arg5 harg5 arg6 harg6 arg7 harg7 arg8 harg8 hc0 hc1 x0 x1 x2 x3 x4 xs0
      = outLayer arg5 harg5 arg6 harg6 x3 x4 (after i arg2 harg2 arg3 harg3 arg4 harg4 x0 x1 x2 (hLoad arg8 harg8 xs0)) := by
  unfold out0_C_5
  rw [pieces_C_out, View.read_writes_junk_eq_canon, View.canon_cons_unit_zero (S := S4096x1) hz]

end Cert.Rnn.Body

end
-- ==== Proof.Model.lean ====
/-
  The recurrence, written on extended reals: what one time step does to the hidden state of one sample, and the hidden
  state of a sample after a number of steps. Both programs are proved to compute these functions.
-/
module

public import Idealize.ShloMosaic.Lib.Pointwise

@[expose] public section

noncomputable section

open scoped BigOperators

namespace Cert.Rnn

open Idealize.ShloMosaic

/-- The four arrays the recurrence reads: the padded batch, the lengths, and the two stacks of weights. -/
structure Args where
  /-- The padded batch, by sample, time step and input feature. -/
  x : (⟨3, ![8192, 512, 10]⟩ : Shape).Idx → EReal
  /-- The length of each sample. -/
  len : (⟨1, ![8192]⟩ : Shape).Idx → BitVec 32
  /-- The input weights, by time step, input feature and hidden unit. -/
  wx : (⟨3, ![512, 10, 64]⟩ : Shape).Idx → EReal
  /-- The hidden weights, by time step, hidden unit read and hidden unit written. -/
  wh : (⟨3, ![512, 64, 64]⟩ : Shape).Idx → EReal

/-- A natural number as a time step (modulo the number of steps). -/
def tm (k : ℕ) : Fin 512 := ⟨k % 512, Nat.mod_lt _ (by decide)⟩

/-- One time step for sample `b`: a unit takes the hyperbolic tangent of its pre-activation while the step is below the
    sample's length, and keeps its value afterwards. -/
def step (A : Args) (b : Fin 8192) (t : Fin 512) (h : Fin 64 → EReal) (j : Fin 64) : EReal :=
  Scalar.select (IntOp.cmpi .slt (BitVec.ofNat 32 t.val) (A.len (ix1 b)))
    (Ideal.tanh (∑ i : Fin 10, A.x (ix3 b t i) * A.wx (ix3 t i j) + ∑ k : Fin 64, h k * A.wh (ix3 t k j))) (h j)

/-- The hidden state of sample `b` after `k` time steps, from the zero state. -/
def hid (A : Args) (b : Fin 8192) : ℕ → Fin 64 → EReal
  | 0 => fun _ => 0
  | k + 1 => step A b (tm k) (hid A b k)

/-- The result of sample `b`: the last hidden state against the output weights, plus the bias. -/
def out (A : Args) (wl : (⟨2, ![64, 1]⟩ : Shape).Idx → EReal) (bl : (⟨1, ![1]⟩ : Shape).Idx → EReal) (b : Fin 8192) : EReal :=
  ∑ k : Fin 64, hid A b 512 k * wl (ix2 k 0) + bl (ix1 0)

end Cert.Rnn

end
-- ==== Proof.BlockValue.lean ====
/-
  The body's operations over the extended reals, read at an index: one step of one sub-batch, the eight sub-batches side
  by side, the loads, and the output layer.
-/
module

public import proofs.«01_k».proof.Proof.Body
public import proofs.«01_k».proof.Proof.Model
public import Idealize.ShloMosaic.Lib.Pipeline.ValueKit.Tiles

@[expose] public section

noncomputable section

open scoped BigOperators

namespace Cert.Rnn.Body

open Idealize.ShloMosaic Idealize.ShloMosaic.TcCoe Idealize.ShloMosaic.Tactic
open Cert.KernelIdeal Cert.KernelIdeal.Gen

/-- Column `b` of sub-batch `g`, as a column of the whole block. -/
def col (g : Fin 8) (b : Fin 512) : Fin 4096 := ⟨512 * g.val + b.val, by omega⟩

/-- A step's weights for unit `j`, against the sub-batch's state and the step's inputs. -/
def preact (w : Fin 74 → EReal) (h : Fin 64 → EReal) (x : Fin 10 → EReal) : EReal :=
  ∑ k : Fin 64, w ⟨k.val, by omega⟩ * h k + ∑ i : Fin 10, w ⟨64 + i.val, by omega⟩ * x i

/-- One step of one sub-batch, at an index. -/
theorem blkStep_apply (w : Vec Ideal S1x64x74 .bf16) (x : FVec Ideal S64x10x4096 .bf16) (ln : IVec S1x4096 32) (t : BitVec 32)
    (k : Fin 64) (g : Fin 8) (h : FVec Ideal S64x512 .bf16) (j : Fin 64) (b : Fin 512) :
    blkStep w x ln t k g h (ix2 j b)
      = Scalar.select (IntOp.cmpi .slt t (ln (ix2 0 (col g b))))
          (Ideal.tanh (preact (fun κ => w (ix3 0 j κ)) (fun κ => h (ix2 κ b)) (fun i => x (ix3 k i (col g b)))))
          (h (ix2 j b)) := by
  unfold blkStep preact
  pointwise
  rfl

/-- The eight sub-batches side by side, at an index. -/
theorem joined_apply (f : Fin 8 → FVec Ideal S64x512 .bf16) (j : Fin 64) (g : Fin 8) (b : Fin 512) :
    joined f (ix2 j (col g b)) = f g (ix2 j b) := by
  have hc : (col g b).val = 512 * g.val + b.val := rfl
  generalize col g b = c at hc ⊢
  have hb := b.isLt
  have e : ∀ (g' : Fin 8) (n : ℕ) (hn : n < 512), g'.val = g.val → n = b.val → f g' (ix2 j ⟨n, hn⟩) = f g (ix2 j b) := by
    rintro g' n hn hg rfl
    obtain rfl := Fin.ext hg
    rfl
  unfold joined
  pointwise
  split_ifs <;> exact e _ _ _ (by simp only [Fin.isValue, Fin.coe_ofNat_eq_mod]; omega) (by omega)

/-- The number of the `k`-th step of time block `i`. -/
def stepIdx (i : grid0.Coords) (k : Fin 64) : Fin 512 :=
  ⟨(i 1).val * 64 + k.val, by have : (i 1).val < 8 := (i 1).isLt; omega⟩

/-- The word the body compares with the lengths is the step's number. -/
theorem stepNo_eq (i : grid0.Coords) (k : Fin 64) : stepNo i k = BitVec.ofNat 32 (stepIdx i k).val := by
  unfold stepNo stepIdx
  show BitVec.ofNat 32 (i 1).val * BitVec.ofNat 32 64 + BitVec.ofNat 32 k.val = _
  rw [← BitVec.ofNat_mul, ← BitVec.ofNat_add]

/-- The weights loaded at the `k`-th step are the stack's at the step's number. -/
theorem wLoad_apply (i : grid0.Coords) (arg4 : Memref sig .tc .vmem S512x64x74 .bf16) (harg4 : arg4.IsWhole)
    (x2 : Vec Ideal S512x64x74 .bf16) (k : Fin 64) (j : Fin 64) (κ : Fin 74) :
    wLoad i arg4 harg4 x2 k (ix3 0 j κ) = x2 (ix3 (stepIdx i k) j κ) := by
  have e : BitVec.toNat (Scalar.indexCast (stepNo i k)) = (stepIdx i k).val := by
    show (stepNo i k).toNat = _
    rw [stepNo_eq, BitVec.toNat_ofNat]
    have := (stepIdx i k).isLt
    omega
  unfold wLoad
  rw [View.readAt_eq_ld, harg4.read_unread]
  refine View.ld_unit_apply_of x2 _ _ _ _ _ fun a => ?_
  fin_cases a
  · exact e.symm
  · exact (Nat.zero_add _).symm
  · exact (Nat.zero_add _).symm

/-- The inputs loaded are the whole block. -/
theorem xLoad_eq (arg2 : Memref sig .tc .vmem S64x10x4096 .bf16) (harg2 : arg2.IsWhole) (x0 : Vec Ideal S64x10x4096 .bf16) :
    xLoad arg2 harg2 x0 = x0 := by
  unfold xLoad
  rw [View.readAt_eq_ld, harg2.read_unread, View.ld_unit_zero (S := S64x10x4096) (funext fun a => by fin_cases a <;> rfl)]
  exact shapeCast_self _ _

/-- The lengths loaded are the whole block. -/
theorem lLoad_eq (arg3 : Memref sig .tc .vmem S1x4096 .i32) (harg3 : arg3.IsWhole) (x1 : Vec Ideal S1x4096 .i32) :
    lLoad arg3 harg3 x1 = x1 := by
  unfold lLoad
  rw [View.readAt_eq_ld, harg3.read_unread, View.ld_unit_zero (S := S1x4096) hz]
  exact shapeCast_self _ _

/-- The state loaded for a sub-batch is the carried state at its columns. -/
theorem hLoad_apply (arg8 : Memref sig .tc .vmem S64x4096 .bf16) (harg8 : arg8.IsWhole) (xs0 : Vec Ideal S64x4096 .bf16)
    (g : Fin 8) (j : Fin 64) (b : Fin 512) : hLoad arg8 harg8 xs0 g (ix2 j b) = xs0 (ix2 j (col g b)) := by
  unfold hLoad
  rw [View.readAt_eq_ld, harg8.read_unread]
  refine View.ld_unit_apply_of xs0 _ _ _ _ _ fun a => ?_
  fin_cases a
  · exact (Nat.zero_add _).symm
  · rfl

/-- The state loaded after the zero state is stored is zero. -/
theorem hZero_apply (arg8 : Memref sig .tc .vmem S64x4096 .bf16) (g : Fin 8) (j : Fin 64) (b : Fin 512) :
    hZero (F := Ideal) arg8 g (ix2 j b) = 0 := by
  unfold hZero
  rw [View.readCov_eq_canon', View.canon_cons_unit_zero (S := S64x4096) hz]
  unfold zeroState
  rw [shapeCast_self]
  pointwise

/-- The output layer, at an index. -/
theorem outLayer_apply (arg5 : Memref sig .tc .vmem S64x1 .bf16) (harg5 : arg5.IsWhole) (arg6 : Memref sig .tc .vmem S1x1 .f32)
    (harg6 : arg6.IsWhole) (x3 : Vec Ideal S64x1 .bf16) (x4 : Vec Ideal S1x1 .f32) (h : FVec Ideal S64x4096 .bf16)
    (r : Fin 4096) (z : Fin 1) :
    outLayer arg5 harg5 arg6 harg6 x3 x4 h (ix2 r z) = ∑ k : Fin 64, h (ix2 k r) * x3 (ix2 k 0) + x4 (ix2 0 0) := by
  unfold outLayer
  rw [View.readAt_eq_ld, View.readAt_eq_ld, harg5.read_unread, harg6.read_unread, View.ld_unit_zero (S := S64x1) hz,
    View.ld_unit_zero (S := S1x1) hz]
  obtain rfl : z = 0 := Subsingleton.elim _ _
  pointwise

end Cert.Rnn.Body

end
-- ==== Proof.Entry.lean ====
/-
  What the windows' blocks hold at a grid point, in terms of the arguments: point `t` works on samples
  `4096 * (t / 8) …` and time steps `64 * (t % 8) …`.
-/
module

public import proofs.«01_k».proof.Proof.Model
public import proofs.«01_k».proof.Proof.Gen.KernelIdeal.Frame
public import Idealize.ShloMosaic.Lib.StableHlo.ReadAt

@[expose] public section

noncomputable section

namespace Cert.Rnn.Entry

open Idealize.ShloMosaic Idealize.ShloMosaic.TcCoe Idealize.ShloMosaic.Tactic
open Cert.KernelIdeal Cert.KernelIdeal.Gen

variable (m : (n : Loc nD τ sig) → n.ty.Contents (Elt Ideal)) (c : Dev nD)

/-- The kernel's transposed batch, at an index. -/
theorem v1_apply (t : Fin 512) (i : Fin 10) (b : Fin 8192) :
    (V m c main_v1 : S512x10x8192.Idx → EReal) (ix3 t i b)
      = (m ((c.tc : Thread nD τ).loc main_arg0) : S8192x512x10.Idx → EReal) (ix3 b t i) := by
  unfold V
  after_reads_at

/-- The kernel's joined weights in the first 64 columns: the hidden weights, transposed. -/
theorem v5_left (t : Fin 512) (j k : Fin 64) :
    (V m c main_v5 : S512x64x74.Idx → EReal) (ix3 t j ⟨k.val, by omega⟩)
      = (m ((c.tc : Thread nD τ).loc main_arg3) : S512x64x64.Idx → EReal) (ix3 t k j) := by
  unfold V
  after_reads_at
  after_reads_simp
  pointwise

/-- The kernel's joined weights in the last 10 columns: the input weights, transposed. -/
theorem v5_right (t : Fin 512) (j : Fin 64) (i : Fin 10) :
    (V m c main_v5 : S512x64x74.Idx → EReal) (ix3 t j ⟨64 + i.val, by omega⟩)
      = (m ((c.tc : Thread nD τ).loc main_arg2) : S512x10x64.Idx → EReal) (ix3 t i j) := by
  unfold V
  after_reads_at
  after_reads_simp
  pointwise

/-- The kernel's row of lengths, at an index. -/
theorem v6_apply (z : Fin 1) (b : Fin 8192) :
    (V m c main_v6 : S1x8192.Idx → BitVec 32) (ix2 z b)
      = (m ((c.tc : Thread nD τ).loc main_arg1) : S8192.Idx → BitVec 32) (ix1 b) := by
  unfold V
  after_reads_at

/-- The kernel's output weights, at an index. -/
theorem v7_apply (i : S64x1.Idx) :
    (V m c main_v7 : S64x1.Idx → EReal) i = (m ((c.tc : Thread nD τ).loc main_arg4) : S64x1.Idx → EReal) i := by
  unfold V
  after_reads_at

/-- The kernel's bias, at an index. -/
theorem v8_apply (y z : Fin 1) :
    (V m c main_v8 : S1x1.Idx → EReal) (ix2 y z) = (m ((c.tc : Thread nD τ).loc main_arg5) : S1.Idx → EReal) (ix1 0) := by
  unfold V
  after_reads_at

/-- The blocks' positions at point `t`. -/
theorem idx_facts : ∀ t : Fin cfg0.N,
    win0_0.index t (0 : Fin 3) = t.val % 8 ∧ win0_0.index t (1 : Fin 3) = 0 ∧ win0_0.index t (2 : Fin 3) = t.val / 8
    ∧ win0_1.index t (0 : Fin 2) = 0 ∧ win0_1.index t (1 : Fin 2) = t.val / 8
    ∧ (∀ a, win0_2.index t a = 0) ∧ (∀ a, win0_3.index t a = 0) ∧ (∀ a, win0_4.index t a = 0)
    ∧ (grid0.coords t 1).val = t.val % 8 :=
  (by decide +kernel : ∀ t : Fin grid0.N, _)

/-- The sample at place `b` of point `t`'s block. -/
def sample (t : Fin cfg0.N) (b : Fin 4096) : Fin 8192 :=
  ⟨4096 * (t.val / 8) + b.val, by have h := lt_of_lt_of_eq t.isLt (show cfg0.N = 16 from N_0); omega⟩

/-- The time step at place `k` of point `t`'s block. -/
def time (t : Fin cfg0.N) (k : Fin 64) : Fin 512 :=
  ⟨(t.val % 8) * 64 + k.val, by omega⟩

/-- The block of inputs at point `t`. -/
theorem iblk0_apply (t : Fin cfg0.N) (k : Fin 64) (i : Fin 10) (b : Fin 4096) :
    (iblk m c 0 t : S64x10x4096.Idx → EReal) (ix3 k i b)
      = (m ((c.tc : Thread nD τ).loc main_arg0) : S8192x512x10.Idx → EReal) (ix3 (sample t b) (time t k) i) := by
  obtain ⟨e0, e1, e2, -⟩ := idx_facts t
  rw [← v1_apply m c]
  show V m c main_v1 (((cfg0.win 0).blk t).view.emb (ix3 k i b)) = _
  refine congrArg (V m c main_v1) (funext fun a => Fin.ext ?_)
  fin_cases a
  · show win0_0.index t (0 : Fin 3) * 64 + 1 * k.val = (t.val % 8) * 64 + k.val
    omega
  · show win0_0.index t (1 : Fin 3) * 10 + 1 * i.val = i.val
    omega
  · show win0_0.index t (2 : Fin 3) * 4096 + 1 * b.val = 4096 * (t.val / 8) + b.val
    omega

/-- The block of lengths at point `t`. -/
theorem iblk1_apply (t : Fin cfg0.N) (z : Fin 1) (b : Fin 4096) :
    (iblk m c 1 t : S1x4096.Idx → BitVec 32) (ix2 z b)
      = (m ((c.tc : Thread nD τ).loc main_arg1) : S8192.Idx → BitVec 32) (ix1 (sample t b)) := by
  obtain ⟨-, -, -, e0, e1, -⟩ := idx_facts t
  rw [← v6_apply m c 0]
  show V m c main_v6 (((cfg0.win 1).blk t).view.emb (ix2 z b)) = _
  refine congrArg (V m c main_v6) (funext fun a => Fin.ext ?_)
  fin_cases a
  · show win0_1.index t (0 : Fin 2) * 1 + 1 * z.val = 0
    omega
  · show win0_1.index t (1 : Fin 2) * 4096 + 1 * b.val = 4096 * (t.val / 8) + b.val
    omega

/-- The block of joined weights at any point is the whole stack. -/
theorem iblk2_eq (t : Fin cfg0.N) : (iblk m c 2 t : S512x64x74.Idx → EReal) = V m c main_v5 := by
  obtain ⟨-, -, -, -, -, e, -⟩ := idx_facts t
  funext x
  show V m c main_v5 (((cfg0.win 2).blk t).view.emb x) = _
  refine congrArg (V m c main_v5) (funext fun a => Fin.ext ?_)
  have h := e a
  fin_cases a
  · show win0_2.index t (0 : Fin 3) * 512 + 1 * (x 0).val = (x 0).val
    have := e 0; omega
  · show win0_2.index t (1 : Fin 3) * 64 + 1 * (x 1).val = (x 1).val
    have := e 1; omega
  · show win0_2.index t (2 : Fin 3) * 74 + 1 * (x 2).val = (x 2).val
    have := e 2; omega

/-- The block of output weights at any point is the argument. -/
theorem iblk3_apply (t : Fin cfg0.N) (x : S64x1.Idx) :
    (iblk m c 3 t : S64x1.Idx → EReal) x = (m ((c.tc : Thread nD τ).loc main_arg4) : S64x1.Idx → EReal) x := by
  obtain ⟨-, -, -, -, -, -, e, -⟩ := idx_facts t
  rw [← v7_apply m c]
  show V m c main_v7 (((cfg0.win 3).blk t).view.emb x) = _
  refine congrArg (V m c main_v7) (funext fun a => Fin.ext ?_)
  fin_cases a
  · show win0_3.index t (0 : Fin 2) * 64 + 1 * (x 0).val = (x 0).val
    have := e 0; omega
  · show win0_3.index t (1 : Fin 2) * 1 + 1 * (x 1).val = (x 1).val
    have := e 1; omega

/-- The block of the bias at any point is the argument. -/
theorem iblk4_apply (t : Fin cfg0.N) (y z : Fin 1) :
    (iblk m c 4 t : S1x1.Idx → EReal) (ix2 y z) = (m ((c.tc : Thread nD τ).loc main_arg5) : S1.Idx → EReal) (ix1 0) := by
  obtain ⟨-, -, -, -, -, -, -, e, -⟩ := idx_facts t
  rw [← v8_apply m c y z]
  show V m c main_v8 (((cfg0.win 4).blk t).view.emb (ix2 y z)) = _
  refine congrArg (V m c main_v8) (funext fun a => Fin.ext ?_)
  fin_cases a
  · show win0_4.index t (0 : Fin 2) * 1 + 1 * y.val = y.val
    have := e 0; omega
  · show win0_4.index t (1 : Fin 2) * 1 + 1 * z.val = z.val
    have := e 1; omega

end Cert.Rnn.Entry

end
-- ==== Proof.Fold.lean ====
/-
  What the grid leaves: the carried state after point `t` is the hidden state, after the time steps up to the end of the
  point's block, of the samples the point works on; so the output array holds every sample's result.
-/
module

public import proofs.«01_k».proof.Proof.BlockValue
public import proofs.«01_k».proof.Proof.Entry
public import proofs.«01_k».proof.Proof.Gen.KernelIdeal.Value

@[expose] public section

noncomputable section

open scoped BigOperators

namespace Cert.Rnn.Fold

open Idealize.ShloMosaic Idealize.ShloMosaic.TcCoe Idealize.ShloMosaic.Tactic
open Cert.KernelIdeal Cert.KernelIdeal.Gen Cert.KernelIdeal.Value Cert.Rnn.Body Cert.Rnn.Entry

variable (m : (n : Loc nD τ sig) → n.ty.Contents (Elt Ideal)) (c : Dev nD)

/-- The arrays the kernel reads, out of the memory it is launched on. -/
def args : Args where
  x := m ((c.tc : Thread nD τ).loc main_arg0)
  len := m ((c.tc : Thread nD τ).loc main_arg1)
  wx := m ((c.tc : Thread nD τ).loc main_arg2)
  wh := m ((c.tc : Thread nD τ).loc main_arg3)

/-- The number the body gives a step is the time step's. -/
theorem stepIdx_eq (t : Fin cfg0.N) (k : Fin 64) : stepIdx (grid0.coords t) k = time t k := by
  obtain ⟨-, -, -, -, -, -, -, -, e⟩ := idx_facts t
  apply Fin.ext
  show (grid0.coords t 1).val * 64 + k.val = (t.val % 8) * 64 + k.val
  rw [e]

/-- The `n`-th step of point `t`'s block is time step `64 * (t % 8) + n`. -/
theorem time_km (t : Fin cfg0.N) (n : ℕ) (hn : n < 64) : time t (km n) = tm (64 * (t.val % 8) + n) := by
  apply Fin.ext
  show (t.val % 8) * 64 + n % 64 = (64 * (t.val % 8) + n) % 512
  omega

/-- The body's pre-activation at a time step is the recurrence's. -/
theorem preact_eq (t : Fin cfg0.N) (s : Fin 512) (j : Fin 64) (H : Fin 64 → EReal) (b : Fin 8192) :
    preact (fun κ => (iblk m c 2 t : S512x64x74.Idx → EReal) (ix3 s j κ)) H (fun i => (args m c).x (ix3 b s i))
      = ∑ i : Fin 10, (args m c).x (ix3 b s i) * (args m c).wx (ix3 s i j)
        + ∑ k : Fin 64, H k * (args m c).wh (ix3 s k j) := by
  rw [iblk2_eq]
  unfold preact
  rw [add_comm]
  refine congrArg₂ (· + ·) (Finset.sum_congr rfl fun i _ => ?_) (Finset.sum_congr rfl fun k _ => ?_)
  · dsimp only; rw [v5_right, mul_comm]; rfl
  · dsimp only; rw [v5_left, mul_comm]; rfl

variable (arg2 : Memref sig .tc .vmem S64x10x4096 .bf16) (harg2 : arg2.IsWhole)
  (arg3 : Memref sig .tc .vmem S1x4096 .i32) (harg3 : arg3.IsWhole)
  (arg4 : Memref sig .tc .vmem S512x64x74 .bf16) (harg4 : arg4.IsWhole)

/-- One step of one sub-batch at point `t` is one step of the recurrence. -/
theorem blkStep_eq (t : Fin cfg0.N) (n : ℕ) (hn : n < 64) (g : Fin 8) (h : FVec Ideal S64x512 .bf16) (b : Fin 512)
    (H : Fin 64 → EReal) (hH : ∀ j, h (ix2 j b) = H j) (j : Fin 64) :
    blkStep (wLoad (grid0.coords t) arg4 harg4 (iblk m c 2 t) (km n)) (xLoad arg2 harg2 (iblk m c 0 t))
        (lLoad arg3 harg3 (iblk m c 1 t)) (stepNo (grid0.coords t) (km n)) (km n) g h (ix2 j b)
      = step (args m c) (sample t (col g b)) (tm (64 * (t.val % 8) + n)) H j := by
  rw [blkStep_apply, xLoad_eq, lLoad_eq, stepNo_eq, stepIdx_eq, hH]
  simp only [wLoad_apply, stepIdx_eq, hH]
  unfold step
  rw [← time_km t n hn, ← preact_eq m c t, iblk1_apply]
  have hx : (fun i => (iblk m c 0 t : S64x10x4096.Idx → EReal) (ix3 (km n) i (col g b)))
      = fun i => (args m c).x (ix3 (sample t (col g b)) (time t (km n)) i) := funext fun i => iblk0_apply m c t _ _ _
  rw [← hx]
  rfl

/-- `n` steps of one sub-batch at point `t` are `n` steps of the recurrence. -/
theorem blkIter_eq (t : Fin cfg0.N) (g : Fin 8) (h0 : FVec Ideal S64x512 .bf16) (b : Fin 512)
    (hh : ∀ j, h0 (ix2 j b) = hid (args m c) (sample t (col g b)) (64 * (t.val % 8)) j) (n : ℕ) (hn : n ≤ 64) (j : Fin 64) :
    blkIter (wLoad (grid0.coords t) arg4 harg4 (iblk m c 2 t)) (xLoad arg2 harg2 (iblk m c 0 t))
        (lLoad arg3 harg3 (iblk m c 1 t)) (stepNo (grid0.coords t)) g h0 n (ix2 j b)
      = hid (args m c) (sample t (col g b)) (64 * (t.val % 8) + n) j := by
  induction n generalizing j with
  | zero => exact hh j
  | succ n ih =>
    exact blkStep_eq m c arg2 harg2 arg3 harg3 arg4 harg4 t n hn g _ b _ (fun j => ih (Nat.le_of_lt hn) j) j

/-- The state after point `t`'s block of steps. -/
theorem after_eq (t : Fin cfg0.N) (h0 : Fin 8 → FVec Ideal S64x512 .bf16)
    (hh : ∀ g b j, h0 g (ix2 j b) = hid (args m c) (sample t (col g b)) (64 * (t.val % 8)) j) (j : Fin 64) (b : Fin 4096) :
    after (grid0.coords t) arg2 harg2 arg3 harg3 arg4 harg4 (iblk m c 0 t) (iblk m c 1 t) (iblk m c 2 t) h0 (ix2 j b)
      = hid (args m c) (sample t b) (64 * (t.val % 8 + 1)) j := by
  have hb : b = col ⟨b.val / 512, by omega⟩ ⟨b.val % 512, by omega⟩ :=
    Fin.ext (by show b.val = 512 * (b.val / 512) + b.val % 512; omega)
  rw [hb]
  unfold after
  rw [joined_apply, blkIter_eq m c arg2 harg2 arg3 harg3 arg4 harg4 t _ _ _ (fun j => hh _ _ j) 64 (Nat.le_refl _)]
  rfl

/-- The state a point that is not a run's first finds, at the recurrence. -/
theorem found (t t' : Fin cfg0.N) (h : t.val = t'.val + 1) (h8 : ¬t.val % 8 = 0) (X : Vec Ideal S64x4096 .bf16)
    (hX : ∀ j b, X (ix2 j b) = hid (args m c) (sample t' b) (64 * (t'.val % 8 + 1)) j)
    (arg8 : Memref sig .tc .vmem S64x4096 .bf16) (harg8 : arg8.IsWhole) (g : Fin 8) (b : Fin 512) (j : Fin 64) :
    hLoad arg8 harg8 X g (ix2 j b) = hid (args m c) (sample t (col g b)) (64 * (t.val % 8)) j := by
  rw [hLoad_apply, hX]
  have e1 : sample t' (col g b) = sample t (col g b) :=
    Fin.ext (by show 4096 * (t'.val / 8) + _ = 4096 * (t.val / 8) + _; rw [show t'.val / 8 = t.val / 8 by omega])
  rw [e1, show t'.val % 8 + 1 = t.val % 8 by omega]

/-- The carried state after point `n`. -/
theorem state_eq (n : ℕ) (hn : n < cfg0.N) (j : Fin 64) (b : Fin 4096) :
    (outsAt0 m c n hn).2 (ix2 j b) = hid (args m c) (sample ⟨n, hn⟩ b) (64 * (n % 8 + 1)) j := by
  induction n generalizing j b with
  | zero =>
    rw [outsAt0_A m c ⟨0, hn⟩ rfl (by dsimp only; omega)]
    dsimp only
    rw [state_A]
    exact after_eq m c _ _ _ _ _ _ ⟨0, hn⟩ _ (fun g b j => hZero_apply _ _ _ _) j b
  | succ n ih =>
    by_cases h0 : (n + 1) % 8 = 0
    · rw [outsAt0_A m c ⟨n + 1, hn⟩ h0 (by dsimp only; omega)]
      dsimp only
      rw [state_A]
      exact after_eq m c _ _ _ _ _ _ ⟨n + 1, hn⟩ _ (fun g b j => by
        rw [hZero_apply]; show _ = hid _ _ (64 * ((n + 1) % 8)) j; rw [h0]; rfl) j b
    · by_cases h1 : (n + 1) % 8 = 7
      · rw [outsAt0_C m c ⟨n + 1, hn⟩ h0 h1]
        dsimp only
        rw [state_C]
        exact after_eq m c _ _ _ _ _ _ ⟨n + 1, hn⟩ _
          (found m c ⟨n + 1, hn⟩ ⟨n, Nat.lt_of_succ_lt hn⟩ rfl h0 _ (ih (Nat.lt_of_succ_lt hn)) _ _) j b
      · rw [outsAt0_B m c ⟨n + 1, hn⟩ h0 h1]
        dsimp only
        rw [state_B]
        exact after_eq m c _ _ _ _ _ _ ⟨n + 1, hn⟩ _
          (found m c ⟨n + 1, hn⟩ ⟨n, Nat.lt_of_succ_lt hn⟩ rfl h0 _ (ih (Nat.lt_of_succ_lt hn)) _ _) j b

/-- The output block after a run's last point. -/
theorem output_eq (n : ℕ) (hn : n < cfg0.N) (h7 : n % 8 = 7) (r : Fin 4096) (z : Fin 1) :
    (outsAt0 m c n hn).1 (ix2 r z)
      = out (args m c) (m ((c.tc : Thread nD τ).loc main_arg4)) (m ((c.tc : Thread nD τ).loc main_arg5)) (sample ⟨n, hn⟩ r) := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [output_C, outLayer_apply]
  unfold out
  refine congrArg₂ (· + ·) (Finset.sum_congr rfl fun q _ => congrArg₂ (· * ·) ?_ (iblk3_apply m c _ _)) (iblk4_apply m c _ _ _)
  have h := after_eq m c (ms0_0 ⟨k + 1, hn⟩) (hs0_0 ⟨k + 1, hn⟩) (ms0_1 ⟨k + 1, hn⟩) (hs0_1 ⟨k + 1, hn⟩) (ms0_2 ⟨k + 1, hn⟩)
    (hs0_2 ⟨k + 1, hn⟩) ⟨k + 1, hn⟩ _ (found m c ⟨k + 1, hn⟩ ⟨k, Nat.lt_of_succ_lt hn⟩ rfl h0 _
      (state_eq m c k (Nat.lt_of_succ_lt hn)) scM0_0 (Memref.isWhole_whole _)) q r
  dsimp only at h
  rw [show 64 * ((k + 1) % 8 + 1) = 512 by omega] at h
  rw [← h]
  rfl

/-- The kernel's result is the recurrence's, sample by sample. -/
theorem out_apply (b : Fin 8192) (z : Fin 1) :
    (G5 m c : S8192x1.Idx → EReal) (ix2 b z)
      = out (args m c) (m ((c.tc : Thread nD τ).loc main_arg4)) (m ((c.tc : Thread nD τ).loc main_arg5)) b := by
  obtain rfl : z = 0 := Subsingleton.elim _ _
  have hp : pt5Of (ix2 b 0 : S8192x1.Idx) = 8 * (b.val / 4096) + 7 := by
    show 8 * (1 * (b.val / 4096 - 0) + 1 * (0 / 1 - 0)) + 7 = _
    omega
  have hN : cfg0.N = 16 := N_0
  have hlt : pt5Of (ix2 b 0 : S8192x1.Idx) < cfg0.N := by rw [hp, hN]; omega
  unfold G5
  rw [dif_pos hlt, ← outsAt0_sweep m c _ hlt]
  have hl : loc5Of (ix2 b 0 : S8192x1.Idx) = ix2 ⟨b.val % 4096, by omega⟩ 0 := by
    funext a
    fin_cases a <;> rfl
  rw [hl, output_eq m c _ hlt (by rw [hp]; omega)]
  refine congrArg _ (Fin.ext ?_)
  show 4096 * (pt5Of (ix2 b 0 : S8192x1.Idx) / 8) + b.val % 4096 = b.val
  rw [hp]
  omega

end Cert.Rnn.Fold

end
-- ==== Proof.RefValue.lean ====
/-
  The reference computes the recurrence: before its `k`-th trip the loop's counter is `k` and its carried state is the
  hidden state of every sample after `k` steps.
-/
module

public import proofs.«01_k».proof.Proof.Model
public import proofs.«01_k».proof.Proof.Gen.ReferenceIdeal.Run
public import Idealize.ShloMosaic.Lib.DynamicIndex

@[expose] public section

noncomputable section

open scoped BigOperators

namespace Cert.Rnn.Ref

open Idealize.ShloMosaic Idealize.ShloMosaic.TcCoe Idealize.SL.Sem
open Cert.ReferenceIdeal Cert.ReferenceIdeal.Gen Cert.ReferenceIdeal.Value
open Idealize.ShloMosaic.StableHlo

/-- A time step's number read as a signed word is the number. -/
theorem toInt_step (k : ℕ) (hk : k < 512) : (BitVec.ofNat 32 k).toInt = (k : ℤ) := by
  have h : (BitVec.ofNat 32 k).toNat = k := by rw [BitVec.toNat_ofNat]; omega
  rw [BitVec.toInt_eq_toNat_of_lt (by rw [h]; omega), h]

set_option maxRecDepth 16384 in
/-- One trip of the reference's loop is one step of the recurrence for every sample and unit. -/
theorem step_apply (A : Args) (V : Valuation τ sig (Elt Ideal)) (k : ℕ) (hk : k < 512)
    (h0 : ∀ t b i, (V (Proc.devRef .tc main_v3_0) : S512x8192x10.Idx → EReal) (ix3 t b i) = A.x (ix3 b t i))
    (h1 : V (Proc.devRef .tc main_v3_1) = A.wx) (h2 : V (Proc.devRef .tc main_v3_2) = A.wh)
    (h3 : ∀ t : Fin 512, (V (Proc.devRef .tc main_v3_3) : S512.Idx → BitVec 32) (ix1 t) = BitVec.ofNat 32 t.val)
    (h4 : V (Proc.devRef .tc main_v3_4) = A.len)
    (h5 : ∀ i, (V (Proc.devRef .tc main_v3_5) : S_.Idx → BitVec 32) i = BitVec.ofNat 32 k)
    (H : Fin 8192 → Fin 64 → EReal)
    (h6 : ∀ b j, (V (Proc.devRef .tc main_v3_6) : S8192x64.Idx → EReal) (ix2 b j) = H b j) (b : Fin 8192) (j : Fin 64) :
    step_main_v3_6 V (ix2 b j : S8192x64.Idx) = step A b (tm k) (H b) j := by
  have hz : (BitVec.toInt (constantI S_ 32 0#32 (Shape.Idx.first h_S_))) = 0 := by decide
  have hc := (congrArg BitVec.toInt (h5 (Shape.Idx.first h_S_))).trans (toInt_step k hk)
  unfold step_main_v3_6
  rw [id_eq]
  rw [h1, h2, h4]
  generalize V (Proc.devRef .tc main_v3_0) = x0 at *
  change S512x8192x10.Idx → EReal at x0
  generalize V (Proc.devRef .tc main_v3_3) = x3 at *
  change S512.Idx → BitVec 32 at x3
  generalize V (Proc.devRef .tc main_v3_5) = x5 at *
  generalize V (Proc.devRef .tc main_v3_6) = x6 at *
  change S8192x64.Idx → EReal at x6
  have hsS1 : Shape.Slices S512 ![k] S1 := ⟨rfl, fun a => by fin_cases a; show k + 1 ≤ 512; omega⟩
  have hsS1x8192x10 : Shape.Slices S512x8192x10 ![k, 0, 0] S1x8192x10 :=
    ⟨rfl, fun a => by fin_cases a <;> first | (show k + 1 ≤ 512; omega) | exact Nat.le_refl _⟩
  have hsS1x10x64 : Shape.Slices S512x10x64 ![k, 0, 0] S1x10x64 :=
    ⟨rfl, fun a => by fin_cases a <;> first | (show k + 1 ≤ 512; omega) | exact Nat.le_refl _⟩
  have hsS1x64x64 : Shape.Slices S512x64x64 ![k, 0, 0] S1x64x64 :=
    ⟨rfl, fun a => by fin_cases a <;> first | (show k + 1 ≤ 512; omega) | exact Nat.le_refl _⟩
  rw [Host.dynamicSlice_eq_extractStridedSlice S1 x3 _ ![k] _ hsS1 (fun a => by fin_cases a; exact hc),
    Host.dynamicSlice_eq_extractStridedSlice S1x8192x10 x0 _ ![k, 0, 0] _ hsS1x8192x10
      (fun a => by fin_cases a <;> first | exact hc | exact hz),
    Host.dynamicSlice_eq_extractStridedSlice S1x10x64 A.wx _ ![k, 0, 0] _ hsS1x10x64
      (fun a => by fin_cases a <;> first | exact hc | exact hz),
    Host.dynamicSlice_eq_extractStridedSlice S1x64x64 A.wh _ ![k, 0, 0] _ hsS1x64x64
      (fun a => by fin_cases a <;> first | exact hc | exact hz)]
  have ht : (tm k).val = k := Nat.mod_eq_of_lt hk
  have ht' : tm k = ⟨k, hk⟩ := Fin.ext ht
  unfold step
  rw [ht']
  pointwise

  simp only [h0, h3, h6]

variable (m : (n : Loc nD τ sig) → n.ty.Contents (Elt Ideal)) (c : Dev nD)

/-- The arrays the reference reads, out of the memory it is launched on. -/
def args : Args where
  x := m ((c.tc : Thread nD τ).loc main_arg0)
  len := m ((c.tc : Thread nD τ).loc main_arg1)
  wx := m ((c.tc : Thread nD τ).loc main_arg2)
  wh := m ((c.tc : Thread nD τ).loc main_arg3)

/-- At the loop's entry the carried batch is the transposed argument. -/
theorem entry0 : entryContents preI m c (Proc.devRef .tc main_v3_0)
    = transpose S512x8192x10 [1, 0, 2] (m ((c.tc : Thread nD τ).loc main_arg0)) transposes_S8192x512x10_S512x8192x10_1_0_2 := by
  simp only [entryContents, afterL_cons, afterL_nil]
  after_reads_simp
  rfl

/-- At the loop's entry the carried input weights are the argument. -/
theorem entry1 : entryContents preI m c (Proc.devRef .tc main_v3_1) = (args m c).wx := by
  simp only [entryContents, afterL_cons, afterL_nil]
  after_reads_simp
  rfl

/-- At the loop's entry the carried hidden weights are the argument. -/
theorem entry2 : entryContents preI m c (Proc.devRef .tc main_v3_2) = (args m c).wh := by
  simp only [entryContents, afterL_cons, afterL_nil]
  after_reads_simp
  rfl

/-- At the loop's entry the carried step numbers count from zero. -/
theorem entry3 : entryContents preI m c (Proc.devRef .tc main_v3_3) = iotaInDim S512 32 0 := by
  simp only [entryContents, afterL_cons, afterL_nil]
  after_reads_simp
  rfl

/-- At the loop's entry the carried lengths are the argument. -/
theorem entry4 : entryContents preI m c (Proc.devRef .tc main_v3_4) = (args m c).len := by
  simp only [entryContents, afterL_cons, afterL_nil]
  after_reads_simp
  rfl

/-- At the loop's entry the counter is zero. -/
theorem entry5 : entryContents preI m c (Proc.devRef .tc main_v3_5) = constantI S_ 32 0#32 := by
  simp only [entryContents, afterL_cons, afterL_nil]
  after_reads_simp
  rfl

/-- At the loop's entry the carried state is zero. -/
theorem entry6 : entryContents preI m c (Proc.devRef .tc main_v3_6)
    = broadcastInDim S8192x64 ![] bcast_S_S8192x64 (constant (F := Ideal) S_ .f32 0x00000000#32) := by
  simp only [entryContents, afterL_cons, afterL_nil]
  after_reads_simp
  rfl

/-- The buffers no trip writes keep what they hold at the loop's entry. -/
theorem iter_fixed (k : ℕ) :
    (STEP^[k] (entryContents preI m c)) (Proc.devRef .tc main_v3_0) = entryContents preI m c (Proc.devRef .tc main_v3_0)
    ∧ (STEP^[k] (entryContents preI m c)) (Proc.devRef .tc main_v3_1) = entryContents preI m c (Proc.devRef .tc main_v3_1)
    ∧ (STEP^[k] (entryContents preI m c)) (Proc.devRef .tc main_v3_2) = entryContents preI m c (Proc.devRef .tc main_v3_2)
    ∧ (STEP^[k] (entryContents preI m c)) (Proc.devRef .tc main_v3_3) = entryContents preI m c (Proc.devRef .tc main_v3_3)
    ∧ (STEP^[k] (entryContents preI m c)) (Proc.devRef .tc main_v3_4) = entryContents preI m c (Proc.devRef .tc main_v3_4) := by
  induction k with
  | zero => exact ⟨rfl, rfl, rfl, rfl, rfl⟩
  | succ k ih =>
    simp only [Function.iterate_succ_apply', STEP_main_v3_0, STEP_main_v3_1, STEP_main_v3_2, STEP_main_v3_3, STEP_main_v3_4]
    exact ih

/-- Before its `k`-th trip the loop's counter is `k`. -/
theorem iter_counter (k : ℕ) (i : S_.Idx) :
    ((STEP^[k] (entryContents preI m c)) (Proc.devRef .tc main_v3_5) : S_.Idx → BitVec 32) i = BitVec.ofNat 32 k := by
  induction k with
  | zero => rw [Function.iterate_zero, id_eq, entry5]; rfl
  | succ k ih =>
    rw [Function.iterate_succ_apply', STEP_main_v3_5]
    show IntOp.addi _ 1#32 = _
    rw [ih, BitVec.ofNat_add]; rfl

set_option maxRecDepth 16384 in
/-- Before its `k`-th trip the carried state is every sample's hidden state after `k` steps. -/
theorem iter_state (k : ℕ) (hk : k ≤ 512) (b : Fin 8192) (j : Fin 64) :
    ((STEP^[k] (entryContents preI m c)) (Proc.devRef .tc main_v3_6) : S8192x64.Idx → EReal) (ix2 b j) = hid (args m c) b k j := by
  induction k generalizing b j with
  | zero =>
    rw [Function.iterate_zero, id_eq, entry6]
    pointwise
    rfl
  | succ k ih =>
    obtain ⟨h0, h1, h2, h3, h4⟩ := iter_fixed m c k
    rw [Function.iterate_succ_apply', STEP_main_v3_6]
    refine step_apply (args m c) _ k hk (fun t b i => ?_) (h1.trans (entry1 m c)) (h2.trans (entry2 m c)) (fun t => ?_)
      (h4.trans (entry4 m c)) (iter_counter m c k) (fun b => hid (args m c) b k) (fun b j => ih (Nat.le_of_lt hk) b j) b j
    · rw [h0, entry0]; pointwise; rfl
    · rw [h3, entry3]; pointwise

set_option maxRecDepth 16384 in
/-- The reference's result is the recurrence's, sample by sample. -/
theorem out_apply (b : Fin 8192) (z : Fin 1) :
    (out_main_v7 (STEP^[512] (entryContents preI m c)) : S8192x1.Idx → EReal) (ix2 b z)
      = out (args m c) (m ((c.tc : Thread nD τ).loc main_arg4)) (m ((c.tc : Thread nD τ).loc main_arg5)) b := by
  have hs := iter_state m c 512 (Nat.le_refl _)
  unfold out_main_v7
  rw [iter_main_arg4, iter_main_arg5]
  generalize (STEP^[512] (entryContents preI m c)) (Proc.devRef .tc main_v3_6) = s at *
  unfold out
  obtain rfl : z = 0 := Subsingleton.elim _ _
  pointwise
  simp only [hs]

end Cert.Rnn.Ref

end
-- ==== Proof.lean ====
/-
  The five claims. The two frame claims of the kernel are its generated frame runs, the reference's is its generated run.
  The value claim sets the two results side by side: each is `Cert.Rnn.out`, the recurrence written on extended reals,
  at every sample (Proof/Fold.lean for the kernel, Proof/RefValue.lean for the reference).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Fold
public import proofs.«01_k».proof.Proof.RefValue

@[expose] public section

noncomputable section

namespace Cert.Proof

open Idealize.ShloMosaic Idealize.SL.Sem

/-- The reference runs without fault, leaves its arguments unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the reference's result is the kernel's: both are the recurrence's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.out_main_v7 (Cert.ReferenceIdeal.Value.STEP^[512]
        (StableHlo.entryContents Cert.ReferenceIdeal.Value.preI m' c)) : Cert.KernelIdeal.S8192x1.Idx → EReal)
      = Cert.KernelIdeal.Value.G5 m c := by
  have ha : Cert.Rnn.Ref.args m' c = Cert.Rnn.Fold.args m c := by
    unfold Cert.Rnn.Ref.args Cert.Rnn.Fold.args
    exact congr (congr (congr (congrArg Cert.Rnn.Args.mk a0) a1) a2) a3
  funext i
  have hi : i = ix2 (i 0) (i 1) := funext fun a => by fin_cases a <;> rfl
  rw [hi]
  refine (Cert.Rnn.Ref.out_apply m' c (i 0) (i 1)).trans (Eq.trans ?_ (Cert.Rnn.Fold.out_apply m c (i 0) (i 1)).symm)
  rw [ha]
  exact congrArg₂ (fun wl bl => Cert.Rnn.out (Cert.Rnn.Fold.args m c) wl bl (i 0)) a4 a5

/-- Over the extended reals, from memories that agree on the arguments, the kernel and the reference both run without
    fault and end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5⟩ := hagree c
  exact results_agree m m' c a0 a1 a2 a3 a4 a5

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
